-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S160x128 : Shape := ⟨2, ![160, 128]⟩
abbrev S128x50000 : Shape := ⟨2, ![128, 50000]⟩
abbrev S1x50000 : Shape := ⟨2, ![1, 50000]⟩
abbrev S160x50000 : Shape := ⟨2, ![160, 50000]⟩
abbrev S25x160x16 : Shape := ⟨3, ![25, 160, 16]⟩
abbrev S128x2048 : Shape := ⟨2, ![128, 2048]⟩
abbrev S1x2048 : Shape := ⟨2, ![1, 2048]⟩
abbrev S160x2048 : Shape := ⟨2, ![160, 2048]⟩
abbrev S1x160x16 : Shape := ⟨3, ![1, 160, 16]⟩
abbrev S160x16x128 : Shape := ⟨3, ![160, 16, 128]⟩
abbrev S160x16 : Shape := ⟨2, ![160, 16]⟩
abbrev S160x16x1 : Shape := ⟨3, ![160, 16, 1]⟩

abbrev nBuf : Space → Nat
  | .hbm => 5
  | .vmem => 9
  | .smem => 0
  | _ => 0

abbrev bufTy : (tb : Table) → Fin (tcTables nBuf tb) → BufTy
  | .hbm, ⟨0, _⟩ => ⟨S160x128, .f32⟩
  | .hbm, ⟨1, _⟩ => ⟨S128x50000, .f32⟩
  | .hbm, ⟨2, _⟩ => ⟨S1x50000, .f32⟩
  | .hbm, ⟨3, _⟩ => ⟨S160x50000, .f32⟩
  | .hbm, ⟨4, _⟩ => ⟨S25x160x16, .i32⟩
  | .local _ .vmem, ⟨0, _⟩ => ⟨S160x128, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S160x2048, .f32⟩
  | .local _ .vmem, ⟨6, _⟩ => ⟨S160x2048, .f32⟩
  | .local _ .vmem, ⟨7, _⟩ => ⟨S1x160x16, .i32⟩
  | .local _ .vmem, ⟨8, _⟩ => ⟨S1x160x16, .i32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x160x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S160x128 : Shape := ⟨2, ![160, 128]⟩
abbrev S128x50000 : Shape := ⟨2, ![128, 50000]⟩
abbrev S1x50000 : Shape := ⟨2, ![1, 50000]⟩
abbrev S160x50000 : Shape := ⟨2, ![160, 50000]⟩
abbrev S_ : Shape := ⟨0, ![]⟩
abbrev S160x51200 : Shape := ⟨2, ![160, 51200]⟩
abbrev S160x400x128 : Shape := ⟨3, ![160, 400, 128]⟩
abbrev S160x400 : Shape := ⟨2, ![160, 400]⟩
abbrev S400 : Shape := ⟨1, ![400]⟩
abbrev S1x400 : Shape := ⟨2, ![1, 400]⟩
abbrev S160x25x16 : Shape := ⟨3, ![160, 25, 16]⟩
abbrev S25x160x16 : Shape := ⟨3, ![25, 160, 16]⟩

abbrev nBuf : Space → Nat
  | .hbm => 24
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S128x50000, .f32⟩
  | .hbm, ⟨2, _⟩ => ⟨S1x50000, .f32⟩
  | .hbm, ⟨3, _⟩ => ⟨S160x50000, .f32⟩
  | .hbm, ⟨4, _⟩ => ⟨S160x50000, .f32⟩
  | .hbm, ⟨5, _⟩ => ⟨S160x50000, .f32⟩
  | .hbm, ⟨6, _⟩ => ⟨S_, .f32⟩
  | .hbm, ⟨7, _⟩ => ⟨S_, .f32⟩
  | .hbm, ⟨8, _⟩ => ⟨S160x51200, .f32⟩
  | .hbm, ⟨9, _⟩ => ⟨S160x400x128, .f32⟩
  | .hbm, ⟨10, _⟩ => ⟨S160x400x128, .i32⟩
  | .hbm, ⟨11, _⟩ => ⟨S_, .f32⟩
  | .hbm, ⟨12, _⟩ => ⟨S_, .i32⟩
  | .hbm, ⟨13, _⟩ => ⟨S160x400, .f32⟩
  | .hbm, ⟨14, _⟩ => ⟨S160x400, .i32⟩
  | .hbm, ⟨15, _⟩ => ⟨S400, .i32⟩
  | .hbm, ⟨16, _⟩ => ⟨S_, .i32⟩
  | .hbm, ⟨17, _⟩ => ⟨S400, .i32⟩
  | .hbm, ⟨18, _⟩ => ⟨S400, .i32⟩
  | .hbm, ⟨19, _⟩ => ⟨S1x400, .i32⟩
  | .hbm, ⟨20, _⟩ => ⟨S160x400, .i32⟩
  | .hbm, ⟨21, _⟩ => ⟨S160x400, .i32⟩
  | .hbm, ⟨22, _⟩ => ⟨S160x25x16, .i32⟩
  | .hbm, ⟨23, _⟩ => ⟨S25x160x16, .i32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_call1_v0 : Ref sig .tc := ⟨.hbm, 10, rfl⟩
abbrev main_call1_cst : Ref sig .tc := ⟨.hbm, 11, rfl⟩
abbrev main_call1_c : Ref sig .tc := ⟨.hbm, 12, rfl⟩
abbrev main_call1_v1_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.BitsFrame.lean ====
module
public import proofs.«01_k».proof.Proof.Gen.Kernel.Frame
public import proofs.«01_k».proof.Proof.Gen.Kernel.Skeleton
public import Idealize.ShloMosaic.Lib.Pipeline.ValueKit
public import Idealize.ShloMosaic.Lib.Tactic

/-!
The frame of the launch at any float values: the last tile's blocks of the projection and the bias overhang their
arrays, and what lies there is named by nothing, so what the two result buffers hold is not stated.
-/

@[expose] public section
noncomputable section

namespace Cert.LogitsFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [FloatOps F]

/-- The machine state's assertions, at the pipeline library's algebra. -/
abbrev MS (F : FTy → Type) [FloatOps F] : Type := MT nD τ sig Unit (Elt F) ℕ (UR sig nD τ) ℕ

set_option maxHeartbeats 1000000 in
/-- The body on whole staging buffers keeps the inputs as they were and gives the result buffers back. -/
theorem sound_kernel (c : Dev nD) (E : Set ℕ) (i : grid0.Coords)
    (a1 : Memref sig .tc .vmem S160x128 .f32) (h1 : a1.IsWhole) (a2 : Memref sig .tc .vmem S128x2048 .f32) (h2 : a2.IsWhole)
    (a3 : Memref sig .tc .vmem S1x2048 .f32) (h3 : a3.IsWhole) (a4 : Memref sig .tc .vmem S160x2048 .f32) (h4 : a4.IsWhole)
    (a5 : Memref sig .tc .vmem S1x160x16 .i32) (h5 : a5.IsWhole)
    (x0 : Vec F S160x128 .f32) (x1 : Vec F S128x2048 .f32) (x2 : Vec F S1x2048 .f32) (K : PUnit → sProp (MS F)) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ (∃ d, owns (c : Thread nD τ) a4 fullShare d) ∗ (∃ d, owns (c : Thread nD τ) a5 fullShare d)) -∗ K ⟨⟩))
      ⊢ wp frame (wpE (defs₀ (F := F)) Variants.none c none) E (cc0__logits_kernel i a1 h1 a2 h2 a3 h3 a4 h4 a5 h5) K := by
  rw [cc0__logits_kernel_eq_skeleton]
  unfold cc0__logits_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; iexists _; isplitr
    swap; · iexact H3
    ipureintro; rfl
  iexists _; iexists _; isplitr
  swap; · iexact H4
  ipureintro; rfl

variable (m : (ℓ : Loc nD τ sig) → Buf (Elt F) ℓ) (ρ : Dev nD → PrngReg)

/-- The result windows are the ones whose contents are not stated. -/
def forgotten : Fin cfg0.W → Bool := fun w => match w with
  | ⟨0, _⟩ => false | ⟨1, _⟩ => false | ⟨2, _⟩ => false | ⟨3, _⟩ => true | ⟨4, _⟩ => true

/-- The proof data: the input buffers keep their blocks, filled out past the arrays' ends by zero words; the result
    buffers' entries are never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => fun _ => Scalar.ofBits .f32 0#32
    | ⟨4, _⟩ => fun _ => 0#32
  Φ _ := Pipeline.ΦA spec0 c
  q _ := fullShare
  owed _ := 0

/-- The states' buffer holds the states at every point. -/
theorem before_0 (c : Dev nD) (t : Fin cfg0.N) (d) : (dats m 0 c).before 0 t d = iblk m c 0 t :=
  before0_0_of m (dats m 0 c) rfl (fun _ => rfl) t d
/-- The projection's buffer holds its block inside the array, and anything past it. -/
theorem before_1 (c : Dev nD) (t : Fin cfg0.N) (d) :
    (dats m 0 c).before 1 t d = win0_1.fill (grid0.coords t) d (iblk m c 1 t) := by
  unfold Dat.before; rw [if_pos (fetch0_1 t)]; rfl
/-- The bias's buffer likewise. -/
theorem before_2 (c : Dev nD) (t : Fin cfg0.N) (d) :
    (dats m 0 c).before 2 t d = win0_2.fill (grid0.coords t) d (iblk m c 2 t) := by
  unfold Dat.before; rw [if_pos (fetch0_2 t)]; rfl

/-- The library's body obligation with the result windows' contents forgotten. -/
theorem body_obligation (c : Dev nD) :
    BodyObligationLoose (dats m 0 c) (defs₀ (F := F)) Variants.none () Set.univ forgotten := fun t => by
  rw [bigSep_W0, bigSep_W0]
  simp only [forgotten]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, H3, H4⟩
  rw [before_0 m c t d0, before_1 m c t d1, before_2 m c t d2]
  iapply (sound_kernel (F := F) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4)) (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  have hc1 : win0_1.cut (grid0.coords t) ((dats m 0 c).after 1 t) = iblk m c 1 t := win0_1.cut_fill _ _ _
  have hc2 : win0_2.cut (grid0.coords t) ((dats m 0 c).after 2 t) = iblk m c 2 t := win0_2.cut_fill _ _ _
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [hc1]; exact BI.Entails.refl _
  isplitl [H2]
  · iexists d2
    change _ ⊢ owns (c : Thread nD τ) (st0_2 t) fullShare (win0_2.fill (grid0.coords t) d2 (win0_2.cut (grid0.coords t) ((dats m 0 c).after 2 t)))
    rw [hc2]; exact BI.Entails.refl _
  isplitl [H3]; · iexact H3
  iexact H4

set_option backward.isDefEq.respectTransparency.types false in
/-- Every run of @main ends with the arguments as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ Variants.none forgotten m ρ main
    (hbody := body_obligation m)
    (hshare := fun c => (dats m 0 c).share_full fun _ => rfl) (howed := fun _ _ => rfl)
    (V := V m) (hmain := hmain m Variants.none) (hA := fun _ _ => rfl) (hΦ := fun _ _ => rfl) _
    (fun r h => ⟨fun c => ⟨RDat.FramePost.arr_in h.1 c 0 rfl, RDat.FramePost.arr_in h.1 c 1 rfl,
      RDat.FramePost.arr_in h.1 c 2 rfl⟩, h.2⟩)

end Cert.LogitsFrame
-- ==== Proof.Body.lean ====
/- The kernel body's triple, for any float values: on whole staging buffers the body reads the state, the weight tile and the
   bias tile, and leaves the masked logits tile (`Gen.k0_pay1`) and the tile of segment arguments (`Gen.k0_pay2`) in the two
   result buffers; the three inputs are unchanged. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.Tactic

@[expose] public section

noncomputable section

namespace Cert.LogitsProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

/-- The machine state's assertions, at the pipeline library's algebra. -/
abbrev MS (F : FTy → Type) [FloatOps F] : Type := MT nD τ sig Unit (Elt F) ℕ (UR sig nD τ) ℕ

set_option maxHeartbeats 1000000 in
/-- The body on whole staging buffers: the inputs at `x0`, `x1`, `x2`, the results at anything; it leaves the inputs as they
    were, the logits buffer at the masked logits tile and the argument buffer at the segments' arguments. -/
theorem sound_kernel (c : Dev nD) (E : Set ℕ) (i : grid0.Coords)
    (a1 : Memref sig .tc .vmem S160x128 .f32) (h1 : a1.IsWhole) (a2 : Memref sig .tc .vmem S128x2048 .f32) (h2 : a2.IsWhole)
    (a3 : Memref sig .tc .vmem S1x2048 .f32) (h3 : a3.IsWhole) (a4 : Memref sig .tc .vmem S160x2048 .f32) (h4 : a4.IsWhole)
    (a5 : Memref sig .tc .vmem S1x160x16 .i32) (h5 : a5.IsWhole)
    (x0 : Vec F S160x128 .f32) (x1 : Vec F S128x2048 .f32) (x2 : Vec F S1x2048 .f32) (K : PUnit → sProp (MS F)) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (k0_pay1 i x0 x1 x2) ∗ owns (c : Thread nD τ) a5 fullShare (k0_pay2 i x0 x1 x2)) -∗ K ⟨⟩))
      ⊢ wp frame (wpE (defs₀ (F := F)) Variants.none c none) E (cc0__logits_kernel i a1 h1 a2 h2 a3 h3 a4 h4 a5 h5) K := by
  rw [cc0__logits_kernel_eq_skeleton]
  unfold cc0__logits_kernel_skel
  have z2 : (![0, 0] : Fin 2 → ℕ) = fun _ => 0 := funext fun a => by fin_cases a <;> rfl
  have z3 : (![0, 0, 0] : Fin 3 → ℕ) = fun _ => 0 := funext fun a => by fin_cases a <;> rfl
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_singleton_self _, View.mem_set_unit_zero z2 inb_S160x2048_S160x2048_0_0 y⟩), View.canon_unit_zero z2 inb_S160x2048_S160x2048_0_0]
    simp only [View.readAt_eq_ld]
    exact congr (congr (congrArg (k0_pay1 i) (View.ld_unit_zero z2 _ _)) (View.ld_unit_zero z2 _ _))
      (View.ld_unit_zero z2 _ _)
  iexists _; isplitr
  swap; · iexact H4
  ipureintro
  rw [View.read_writes_eq_canon _ _ _ (fun y => ⟨_, List.mem_singleton_self _, View.mem_set_unit_zero z3 inb_S1x160x16_S1x160x16_0_0_0 y⟩), View.canon_unit_zero z3 inb_S1x160x16_S1x160x16_0_0_0]
  simp only [View.readAt_eq_ld]
  exact congr (congr (congrArg (k0_pay2 i) (View.ld_unit_zero z2 _ _)) (View.ld_unit_zero z2 _ _))
    (View.ld_unit_zero z2 _ _)

end Cert.LogitsProof

end
-- ==== Proof.FirstMax.lean ====
module
public import Idealize.ShloMosaic.PureOps.Ideal.Laws
public import Idealize.ShloMosaic.Lib.Pointwise

/-!
The first place of a finite row at which its greatest entry stands, and the two ways in which a program
finds it: as the least of the indices that meet the row's maximum, and by a left fold over
(value, index) pairs which keeps the earlier of two equal values.
-/

@[expose] public section
noncomputable section

namespace Cert.LogitsProof

open Idealize.ShloMosaic

/-- `j` is the first place at which the row `f` has its greatest entry. -/
def IsFirstMax {n : ℕ} (f : Fin n → EReal) (j : Fin n) : Prop :=
  (∀ k, f k ≤ f j) ∧ ∀ k, k < j → f k < f j

/-- A row that is not empty has a first greatest entry. -/
theorem exists_firstMax {n : ℕ} (f : Fin (n + 1) → EReal) : ∃ j, IsFirstMax f j := by
  classical
  obtain ⟨m, hm⟩ := Finite.exists_max f
  have hne : (Finset.univ.filter fun j => ∀ k, f k ≤ f j).Nonempty := ⟨m, by simpa using hm⟩
  refine ⟨Finset.min' _ hne, ?_, fun k hk => ?_⟩
  · simpa using Finset.min'_mem _ hne
  · by_contra hlt
    have hge := not_lt.mp hlt
    have hmin : ∀ l, f l ≤ f (Finset.min' _ hne) := by simpa using Finset.min'_mem _ hne
    exact absurd (Finset.min'_le (Finset.univ.filter fun j => ∀ k, f k ≤ f j) k
      (by simpa using fun l => (hmin l).trans hge)) (not_le.mpr hk)

/-- There is only one first greatest entry. -/
theorem IsFirstMax.unique {n : ℕ} {f : Fin n → EReal} {i j : Fin n} (hi : IsFirstMax f i) (hj : IsFirstMax f j) :
    i = j := by
  rcases lt_trichotomy i j with h | h | h
  · exact absurd (hi.1 j) (not_le.mpr (hj.2 i h))
  · exact h
  · exact absurd (hj.1 i) (not_le.mpr (hi.2 j h))

/-- The first place of the greatest entry of a row. -/
def firstMax {n : ℕ} (f : Fin (n + 1) → EReal) : Fin (n + 1) := (exists_firstMax f).choose

/-- What `firstMax` returns is the first place of the greatest entry. -/
theorem firstMax_spec {n : ℕ} (f : Fin (n + 1) → EReal) : IsFirstMax f (firstMax f) := (exists_firstMax f).choose_spec

/-- The maximum of a row, folded from the least value, is its entry at the first greatest place. -/
theorem fold_max_eq {n : ℕ} {f : Fin n → EReal} {j : Fin n} (hj : IsFirstMax f j) :
    (Finset.univ : Finset (Fin n)).fold max (⊥ : EReal) f = f j := by
  apply le_antisymm
  · rw [Finset.fold_max_le]; exact ⟨bot_le, fun k _ => hj.1 k⟩
  · rw [Finset.le_fold_max]; exact Or.inr ⟨j, Finset.mem_univ _, le_rfl⟩

/-- A signed minimum of words read as an integer is the minimum of the integers. -/
theorem toInt_minsi (x y : BitVec 32) : (IntOp.minsi x y).toInt = min x.toInt y.toInt := by
  unfold IntOp.minsi
  rw [BitVec.slt]
  by_cases h : x.toInt < y.toInt
  · rw [if_pos (by simpa using h)]; omega
  · rw [if_neg (by simpa using h)]; omega

/-- The signed minimum of finitely many words, folded from a word not below the word `w`, is `w` as soon as `w` is
    among them and none lies below it. -/
theorem fold_minsi_eq {n : ℕ} (init w : BitVec 32) (g : Fin n → BitVec 32) (j : Fin n) (hj : g j = w)
    (hinit : w.toInt ≤ init.toInt) (hle : ∀ k, w.toInt ≤ (g k).toInt) :
    (Finset.univ : Finset (Fin n)).fold IntOp.minsi init g = w := by
  classical
  have key : ∀ s : Finset (Fin n), (s.fold IntOp.minsi init g).toInt = s.fold min init.toInt fun k => (g k).toInt := by
    intro s
    induction s using Finset.induction_on with
    | empty => simp
    | insert a s ha ih => rw [Finset.fold_insert ha, Finset.fold_insert ha, toInt_minsi, ih]
  apply BitVec.eq_of_toInt_eq
  rw [key]
  apply le_antisymm
  · rw [Finset.fold_min_le]; exact Or.inr ⟨j, Finset.mem_univ _, by rw [hj]⟩
  · rw [Finset.le_fold_min]; exact ⟨hinit, fun k _ => hle k⟩

/-- The least of the offset indices that meet the row's maximum is the offset index of the first greatest entry. -/
theorem fold_minsi_firstMax {n : ℕ} (f : Fin n → EReal) (j : Fin n) (hj : IsFirstMax f j) (b : ℕ)
    (hb : b + n ≤ 2 ^ 30) (g : Fin n → BitVec 32)
    (hg : ∀ k, g k = if f k = f j then BitVec.ofNat 32 (b + k) else 1073741824#32) :
    (Finset.univ : Finset (Fin n)).fold IntOp.minsi 2147483647#32 g = BitVec.ofNat 32 (b + j) := by
  have hint : ∀ m : ℕ, m < 2 ^ 31 → (BitVec.ofNat 32 m).toInt = m := fun m hm => by
    rw [BitVec.toInt_ofNat']; simp [Int.bmod]; omega
  have hj' := j.isLt
  refine fold_minsi_eq _ _ g j (by rw [hg, if_pos rfl]) ?_ fun k => ?_
  · rw [hint _ (by omega)]; simp; omega
  · rw [hint _ (by omega), hg]
    have hk' := k.isLt
    split_ifs with h
    · rw [hint _ (by omega)]
      have : j ≤ k := not_lt.mp fun hlt => absurd h (ne_of_lt (hj.2 k hlt))
      have : (j : ℕ) ≤ k := this
      omega
    · simp; omega

end Cert.LogitsProof
-- ==== Proof.Payload.lean ====
module
public import proofs.«01_k».proof.Proof.Gen.KernelIdeal.Skeleton
public import proofs.«01_k».proof.Proof.FirstMax
public import Idealize.ShloMosaic.Lib.Pipeline.ValueKit
public import Idealize.ShloMosaic.Lib.Pointwise
public import Idealize.ShloMosaic.PureOps.Ideal.Laws

/-!
What one grid point computes, over the extended reals: the logits of its columns, with the columns past the
vocabulary at the least value, and for each of its segments of 128 columns the first column of the greatest logit.
-/

@[expose] public section
noncomputable section

namespace Cert.LogitsProof

open Cert.KernelIdeal Cert.KernelIdeal.Gen Idealize.ShloMosaic

/-- The decoder states, the output projection and its bias, over the extended reals. -/
abbrev States : Type := (⟨2, ![160, 128]⟩ : Shape).Idx → EReal
abbrev Proj : Type := (⟨2, ![128, 50000]⟩ : Shape).Idx → EReal
abbrev Bias : Type := (⟨2, ![1, 50000]⟩ : Shape).Idx → EReal

/-- The logit of vocabulary entry `v` in beam row `r`. -/
def logit (h : States) (W : Proj) (b : Bias) (r : Fin 160) (v : Fin 50000) : EReal :=
  (∑ k : Fin 128, h (ix2 r k) * W (ix2 k v)) + b (ix2 0 v)

/-- The logits of a row, continued past the vocabulary by the least value. -/
def padLogit (h : States) (W : Proj) (b : Bias) (r : Fin 160) (n : ℕ) : EReal :=
  if hn : n < 50000 then logit h W b r ⟨n, hn⟩ else ⊥

/-- Where in segment `q` of row `r` the greatest logit first stands. -/
def segPlace (h : States) (W : Proj) (b : Bias) (r : Fin 160) (q : ℕ) : Fin 128 :=
  firstMax fun l : Fin 128 => padLogit h W b r (q * 128 + l)

/-- The column, as a word, at which segment `q` of row `r` first has its greatest logit. -/
def segWord (h : States) (W : Proj) (b : Bias) (r : Fin 160) (q : ℕ) : BitVec 32 :=
  BitVec.ofNat 32 (q * 128 + segPlace h W b r q)

/-- The tile's blocks hold the columns of the projection and the bias that lie inside the vocabulary. -/
def Columns (W : Proj) (b : Bias) (n : ℕ) (x1 : Vec Ideal S128x2048 .f32) (x2 : Vec Ideal S1x2048 .f32) : Prop :=
  ∀ (j : Fin 2048) (hj : n * 2048 + j < 50000),
    (∀ k, x1 (ix2 k j) = W (ix2 k ⟨n * 2048 + j, hj⟩)) ∧ x2 (ix2 0 j) = b (ix2 0 ⟨n * 2048 + j, hj⟩)

/-- The word of the column `j` of tile `n`. -/
theorem colWord (n j : ℕ) : IntOp.addi (Scalar.muli (BitVec.ofNat 32 n) 2048#32) (BitVec.ofNat 32 j)
    = BitVec.ofNat 32 (n * 2048 + j) := by
  show BitVec.ofNat 32 n * BitVec.ofNat 32 2048 + BitVec.ofNat 32 j = _
  rw [BitVec.ofNat_add, BitVec.ofNat_mul]

/-- The signed order of two words of small numbers is the numbers' order. -/
theorem slt_word (a b : ℕ) (ha : a < 2 ^ 31) (hb : b < 2 ^ 31) :
    IntOp.cmpi CmpIPredicate.slt (BitVec.ofNat 32 a) (BitVec.ofNat 32 b) = BitVec.ofBool (decide (a < b)) := by
  have hint : ∀ m : ℕ, m < 2 ^ 31 → (BitVec.ofNat 32 m).toInt = m := fun m hm => by
    rw [BitVec.toInt_ofNat']; simp [Int.bmod]; omega
  show BitVec.ofBool (BitVec.slt _ _) = _
  rw [BitVec.slt, hint _ ha, hint _ hb]
  simp

/-- The tile of logits at one place: the row's logit there, or the least value past the vocabulary, whatever the blocks
    hold in their columns past it. -/
theorem pay1_apply (h : States) (W : Proj) (b : Bias) (i : grid0.Coords) (x1 : Vec Ideal S128x2048 .f32)
    (x2 : Vec Ideal S1x2048 .f32) (hx : Columns W b (i 0) x1 x2) (r : Fin 160) (j : Fin 2048) :
    k0_pay1 (F := Ideal) i h x1 x2 (ix2 r j) = padLogit h W b r ((i 0 : ℕ) * 2048 + j) := by
  have hi : (i 0 : ℕ) < 25 := (i 0).isLt
  have hj := j.isLt
  unfold k0_pay1
  simp only [pointwise]
  change Scalar.select (IntOp.cmpi CmpIPredicate.slt
        (IntOp.addi (Scalar.muli (BitVec.ofNat 32 ↑(i 0)) 2048#32) (BitVec.ofNat 32 (0 * 2048 + (j : ℕ)))) (BitVec.ofNat 32 50000))
      ((0 : EReal) + (∑ k, h (ix2 r k) * x1 (ix2 k j)) + x2 (ix2 0 j)) (Named.named (F := Ideal) (φ := .f32) κ "mask" 0xF149F2CA#32) = _
  rw [Nat.zero_mul, Nat.zero_add, colWord _ j, slt_word _ _ (by omega) (by norm_num)]
  by_cases hn : (i 0 : ℕ) * 2048 + j < 50000
  · obtain ⟨hW, hb⟩ := hx j hn
    rw [padLogit, dif_pos hn]
    have : BitVec.ofBool (decide ((i 0 : ℕ) * 2048 + j < 50000)) = 1 := by simp [hn]
    rw [Scalar.select, if_pos this, zero_add, logit, hb]
    exact congrArg (· + _) (Finset.sum_congr rfl fun k _ => congrArg (h (ix2 r k) * ·) (hW k))
  · rw [padLogit, dif_neg hn]
    have : ¬ (BitVec.ofBool (decide ((i 0 : ℕ) * 2048 + j < 50000)) = 1) := by simp [hn]
    rw [Scalar.select, if_neg this]
    exact IdealRules.named_const.ideal_named_scalar _ _ _ _ rfl

/-- The maximum of a segment of the tile, and the columns that meet it: the least of them is the segment's word. -/
theorem pay2_apply (h : States) (W : Proj) (b : Bias) (i : grid0.Coords) (x1 : Vec Ideal S128x2048 .f32)
    (x2 : Vec Ideal S1x2048 .f32) (hx : Columns W b (i 0) x1 x2) (r : Fin 160) (s : Fin 16) :
    k0_pay2 (F := Ideal) i h x1 x2 (ix3 0 r s) = segWord h W b r ((i 0 : ℕ) * 16 + s) := by
  have hi : (i 0 : ℕ) < 25 := (i 0).isLt
  have hs := s.isLt
  unfold k0_pay2
  simp only [pointwise]
  have hpay : ∀ l : Fin 128, ∀ hl, k0_pay1 (F := Ideal) i h x1 x2 (ix2 r ⟨(s : ℕ) * 128 + l, hl⟩)
      = padLogit h W b r (((i 0 : ℕ) * 16 + s) * 128 + l) := fun l hl => by
    rw [pay1_apply h W b i x1 x2 hx]
    congr 1
    show (i 0 : ℕ) * 2048 + ((s : ℕ) * 128 + l) = _
    ring
  have hmax := fold_max_eq (firstMax_spec fun l : Fin 128 => padLogit h W b r (((i 0 : ℕ) * 16 + s) * 128 + l))
  have hinf : Ideal.ofBits FTy.f32 0xFF800000#32 = (⊥ : EReal) := by
    simp [Ideal.ofBits, Ideal.ieee]
  refine fold_minsi_firstMax (fun l : Fin 128 => padLogit h W b r (((i 0 : ℕ) * 16 + s) * 128 + l)) _
    (firstMax_spec _) (((i 0 : ℕ) * 16 + s) * 128) (by omega) _ fun k => ?_
  have hlt : ∀ l : Fin 128, (s : ℕ) * 128 + l < 2048 := fun l => by have := l.isLt; omega
  change (if k0_pay1 (F := Ideal) i h x1 x2 (ix2 r ⟨(s : ℕ) * 128 + k, hlt k⟩)
        = Finset.fold max (Ideal.ofBits FTy.f32 0xFF800000#32)
            (fun k : Fin 128 => k0_pay1 (F := Ideal) i h x1 x2 (ix2 r ⟨(s : ℕ) * 128 + k, hlt k⟩)) Finset.univ
      then IntOp.addi (IntOp.addi (Scalar.muli (BitVec.ofNat 32 ↑(i 0)) 2048#32)
          (IntOp.muli (BitVec.ofNat 32 (0 * 16 + (s : ℕ))) 128#32)) (BitVec.ofNat 32 (0 * 128 + (k : ℕ)))
      else 1073741824#32) = _
  have hword : IntOp.addi (IntOp.addi (Scalar.muli (BitVec.ofNat 32 ↑(i 0)) 2048#32)
      (IntOp.muli (BitVec.ofNat 32 (0 * 16 + (s : ℕ))) 128#32)) (BitVec.ofNat 32 (0 * 128 + (k : ℕ)))
      = BitVec.ofNat 32 (((i 0 : ℕ) * 16 + s) * 128 + k) := by
    show (BitVec.ofNat 32 _ * BitVec.ofNat 32 2048 + BitVec.ofNat 32 _ * BitVec.ofNat 32 128) + BitVec.ofNat 32 _ = _
    rw [← BitVec.ofNat_mul, ← BitVec.ofNat_mul, ← BitVec.ofNat_add, ← BitVec.ofNat_add]
    congr 1
    ring
  rw [hword, hpay k (hlt k), funext fun l => hpay l (hlt l), hinf, hmax]

end Cert.LogitsProof
-- ==== Proof.Region.lean ====
module
public import proofs.«01_k».proof.Proof.Body
public import proofs.«01_k».proof.Proof.Payload

/-!
The run of the launch over the extended reals: the two result arrays in closed form.
-/

@[expose] public section
noncomputable section

namespace Cert.LogitsProof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable (m : (ℓ : Loc nD τ sig) → Buf (Elt Ideal) ℓ) (ρ : Dev nD → PrngReg)

/-- The argument arrays as launched. -/
abbrev hArr (c : Dev nD) : States := m ((c : Thread nD τ).loc main_arg0)
abbrev wArr (c : Dev nD) : Proj := m ((c : Thread nD τ).loc main_arg1)
abbrev bArr (c : Dev nD) : Bias := m ((c : Thread nD τ).loc main_arg2)

/-- What the logits buffer holds after the body at point `t`. -/
def logitTile (c : Dev nD) (t : Fin cfg0.N) : Vec Ideal S160x2048 .f32 :=
  fun j => padLogit (hArr m c) (wArr m c) (bArr m c) (j 0) ((grid0.coords t 0 : ℕ) * 2048 + (j 1 : ℕ))
/-- What the segments' buffer holds after the body at point `t`. -/
def segTile (c : Dev nD) (t : Fin cfg0.N) : Vec Ideal S1x160x16 .i32 :=
  fun j => segWord (hArr m c) (wArr m c) (bArr m c) (j 1) ((grid0.coords t 0 : ℕ) * 16 + (j 2 : ℕ))

/-- The proof data: the input buffers at their blocks, filled out past the arrays' ends by zeros; the result buffers at
    their tiles. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => logitTile m c t
    | ⟨4, _⟩ => segTile m c t
  Φ _ := Pipeline.ΦA spec0 c
  q _ := fullShare
  owed _ := 0

/-- The states' buffer holds the states at every point. -/
theorem before_0 (c : Dev nD) (t : Fin cfg0.N) (d) : (dats m 0 c).before 0 t d = iblk m c 0 t :=
  before0_0_of m (dats m 0 c) rfl (fun _ => rfl) t d
/-- The projection's buffer holds its block inside the array, and anything past it. -/
theorem before_1 (c : Dev nD) (t : Fin cfg0.N) (d) :
    (dats m 0 c).before 1 t d = win0_1.fill (grid0.coords t) d (iblk m c 1 t) := by
  unfold Dat.before; rw [if_pos (fetch0_1 t)]; rfl
/-- The bias's buffer likewise. -/
theorem before_2 (c : Dev nD) (t : Fin cfg0.N) (d) :
    (dats m 0 c).before 2 t d = win0_2.fill (grid0.coords t) d (iblk m c 2 t) := by
  unfold Dat.before; rw [if_pos (fetch0_2 t)]; rfl

/-- Where each window's block lies at a point: the states whole, the others at the point's tile. -/
theorem index_eq : ∀ t : Fin grid0.N, win0_0.index t = ![0, 0] ∧ win0_1.index t = ![0, (grid0.coords t 0 : ℕ)]
    ∧ win0_2.index t = ![0, (grid0.coords t 0 : ℕ)] ∧ win0_3.index t = ![0, (grid0.coords t 0 : ℕ)]
    ∧ win0_4.index t = ![(grid0.coords t 0 : ℕ), 0, 0] := by decide +kernel

/-- How much of a tile lies inside the vocabulary. -/
theorem xsize_eq : ∀ t : Fin grid0.N,
    win0_1.xsize (grid0.coords t) 0 = 128 ∧ win0_1.xsize (grid0.coords t) 1 = min 2048 (50000 - (grid0.coords t 0 : ℕ) * 2048)
    ∧ win0_2.xsize (grid0.coords t) 0 = 1 ∧ win0_2.xsize (grid0.coords t) 1 = min 2048 (50000 - (grid0.coords t 0 : ℕ) * 2048)
    ∧ win0_3.xsize (grid0.coords t) 1 = min 2048 (50000 - (grid0.coords t 0 : ℕ) * 2048) := by
  decide +kernel

/-- The states' block is the states. -/
theorem iblk_0 (c : Dev nD) (t : Fin cfg0.N) : iblk m c 0 t = hArr m c := by
  funext j
  unfold iblk
  blk_simp
  refine congrArg (hArr m c) (funext fun a => Fin.ext ?_)
  blk_simp
  rw [(index_eq t).1]
  fin_cases a <;> exact (congrArg (· + _) (Nat.zero_mul _)).trans (Nat.zero_add _)

/-- The blocks as fetched hold the columns of the projection and the bias that lie inside the vocabulary, whatever was
    in the buffers past them. -/
theorem columns (c : Dev nD) (t : Fin cfg0.N) (d1 : Vec Ideal S128x2048 .f32) (d2 : Vec Ideal S1x2048 .f32) :
    Columns (wArr m c) (bArr m c) (grid0.coords t 0) (win0_1.fill (grid0.coords t) d1 (iblk m c 1 t))
      (win0_2.fill (grid0.coords t) d2 (iblk m c 2 t)) := by
  intro j hj
  obtain ⟨e10, e11, e20, e21, -⟩ := xsize_eq t
  have hj' := j.isLt
  refine ⟨fun k => ?_, ?_⟩
  · have hm : win0_1.moved (grid0.coords t) (ix2 k j) = true := (win0_1.moved_iff _ _).mpr fun a => by
      fin_cases a
      · exact lt_of_lt_of_eq k.isLt e10.symm
      · show (j : ℕ) < win0_1.xsize (grid0.coords t) 1
        rw [e11]; omega
    unfold Window.fill
    rw [dif_pos hm]
    unfold iblk
    blk_simp
    refine congrArg (wArr m c) (funext fun a => Fin.ext ?_)
    blk_simp
    rw [(index_eq t).2.1]
    fin_cases a
    · exact (congrArg (· + _) (Nat.zero_mul _)).trans (Nat.zero_add _)
    · rfl
  · have hm : win0_2.moved (grid0.coords t) (ix2 0 j) = true := (win0_2.moved_iff _ _).mpr fun a => by
      fin_cases a
      · exact lt_of_lt_of_eq Nat.one_pos e20.symm
      · show (j : ℕ) < win0_2.xsize (grid0.coords t) 1
        rw [e21]; omega
    unfold Window.fill
    rw [dif_pos hm]
    unfold iblk
    blk_simp
    refine congrArg (bArr m c) (funext fun a => Fin.ext ?_)
    blk_simp
    rw [(index_eq t).2.2.1]
    fin_cases a
    · rfl
    · rfl

/-- The body's logits tile. -/
theorem pay1_eq (c : Dev nD) (t : Fin cfg0.N) (d1 : Vec Ideal S128x2048 .f32) (d2 : Vec Ideal S1x2048 .f32) :
    k0_pay1 (F := Ideal) (grid0.coords t) (iblk m c 0 t) (win0_1.fill (grid0.coords t) d1 (iblk m c 1 t))
      (win0_2.fill (grid0.coords t) d2 (iblk m c 2 t)) = logitTile m c t := by
  rw [iblk_0]
  funext j
  idx_vars j
  exact pay1_apply (hArr m c) (wArr m c) (bArr m c) _ _ _ (columns m c t d1 d2) _ _

/-- The body's segment words. -/
theorem pay2_eq (c : Dev nD) (t : Fin cfg0.N) (d1 : Vec Ideal S128x2048 .f32) (d2 : Vec Ideal S1x2048 .f32) :
    k0_pay2 (F := Ideal) (grid0.coords t) (iblk m c 0 t) (win0_1.fill (grid0.coords t) d1 (iblk m c 1 t))
      (win0_2.fill (grid0.coords t) d2 (iblk m c 2 t)) = segTile m c t := by
  rw [iblk_0]
  funext j
  obtain ⟨r, s, rfl⟩ : ∃ (r : Fin 160) (s : Fin 16), j = ix3 0 r s :=
    ⟨j 1, j 2, by rw [eq_ix3 j]; congr 1; exact Subsingleton.elim (α := Fin 1) _ _⟩
  exact pay2_apply (hArr m c) (wArr m c) (bArr m c) _ _ _ (columns m c t d1 d2) _ _

/-- The library's body obligation: the tiles are what the payloads compute. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2]
  iapply (sound_kernel (F := Ideal) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4)) (iblk m c 0 t)
    (win0_1.fill (grid0.coords t) d1 (iblk m c 1 t)) (win0_2.fill (grid0.coords t) d2 (iblk m c 2 t)) _)
  rw [pay1_eq, pay2_eq]
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  have hc1 : win0_1.cut (grid0.coords t) ((dats m 0 c).after 1 t) = iblk m c 1 t := win0_1.cut_fill _ _ _
  have hc2 : win0_2.cut (grid0.coords t) ((dats m 0 c).after 2 t) = iblk m c 2 t := win0_2.cut_fill _ _ _
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [hc1]; exact BI.Entails.refl _
  isplitl [H2]
  · iexists d2
    change _ ⊢ owns (c : Thread nD τ) (st0_2 t) fullShare (win0_2.fill (grid0.coords t) d2 (win0_2.cut (grid0.coords t) ((dats m 0 c).after 2 t)))
    rw [hc2]; exact BI.Entails.refl _
  isplitl [H3]
  · iexists logitTile m c t
    change _ ⊢ owns (c : Thread nD τ) (st0_3 t) fullShare (win0_3.fill (grid0.coords t) (logitTile m c t) (win0_3.cut (grid0.coords t) (logitTile m c t)))
    rw [Window.fill_cut]; exact BI.Entails.refl _
  iexact H4

/-- The logits array: every row's logits. -/
def logits (c : Dev nD) : (⟨2, ![160, 50000]⟩ : Shape).Idx → EReal :=
  fun j => logit (hArr m c) (wArr m c) (bArr m c) (j 0) (j 1)
/-- The segments' array: of tile `t`, row `r` and the tile's segment `s`, the column of the segment's greatest logit. -/
def segs (c : Dev nD) : (⟨3, ![25, 160, 16]⟩ : Shape).Idx → BitVec 32 :=
  fun j => segWord (hArr m c) (wArr m c) (bArr m c) (j 1) ((j 0 : ℕ) * 16 + (j 2 : ℕ))

/-- The logits array after the run. -/
theorem final_3 (c : Dev nD) : (dats m 0 c).arrAt 3 cfg0.N = logits m c := by
  refine Dat.arrAt_eq_of_covers _ 3 _ (by decide +kernel) fun t hf y => ?_
  blk_simp
  have hy : (y 1 : ℕ) < min 2048 (50000 - (grid0.coords t 0 : ℕ) * 2048) :=
    lt_of_lt_of_eq (y 1).isLt (xsize_eq t).2.2.2.2
  have h1 : ((win0_3.blk t).view.emb y 1 : ℕ) = (grid0.coords t 0 : ℕ) * 2048 + (y 1 : ℕ) := by
    blk_simp; rw [(index_eq t).2.2.2.1]; rfl
  have h0 : ((win0_3.blk t).view.emb y 0 : ℕ) = (y 0 : ℕ) := by
    blk_simp; rw [(index_eq t).2.2.2.1]; exact (congrArg (· + _) (Nat.zero_mul _)).trans (Nat.zero_add _)
  change padLogit (hArr m c) (wArr m c) (bArr m c) _ ((grid0.coords t 0 : ℕ) * 2048 + (y 1 : ℕ)) = logit _ _ _ _ _
  refine (dif_pos (show (grid0.coords t 0 : ℕ) * 2048 + (y 1 : ℕ) < 50000 by omega)).trans ?_
  exact congrArg₂ (logit (hArr m c) (wArr m c) (bArr m c)) (Fin.ext h0.symm) (Fin.ext h1.symm)

/-- The segments' array after the run. -/
theorem final_4 (c : Dev nD) : (dats m 0 c).arrAt 4 cfg0.N = segs m c := by
  refine Dat.arrAt_eq_of_covers _ 4 _ (by decide +kernel) fun t hf y => ?_
  blk_simp
  have h0 : ((win0_4.blk t).view.emb y 0 : ℕ) = (grid0.coords t 0 : ℕ) * 1 + (y 0 : ℕ) := by
    blk_simp; rw [(index_eq t).2.2.2.2]; rfl
  have h1 : ((win0_4.blk t).view.emb y 1 : ℕ) = (y 1 : ℕ) := by
    blk_simp; rw [(index_eq t).2.2.2.2]; exact (congrArg (· + _) (Nat.zero_mul _)).trans (Nat.zero_add _)
  have h2 : ((win0_4.blk t).view.emb y 2 : ℕ) = (y 2 : ℕ) := by
    blk_simp; rw [(index_eq t).2.2.2.2]; exact (congrArg (· + _) (Nat.zero_mul _)).trans (Nat.zero_add _)
  have hy : (y 0 : ℕ) < 1 := (y 0).isLt
  change segWord (hArr m c) (wArr m c) (bArr m c) _ ((grid0.coords t 0 : ℕ) * 16 + (y 2 : ℕ)) = segWord _ _ _ _ _
  exact congrArg₂ (segWord (hArr m c) (wArr m c) (bArr m c)) (Fin.ext h1.symm) (by rw [h0, h2]; omega)

set_option backward.isDefEq.respectTransparency.types false in
/-- Every run of @main ends with the two result arrays in closed form, the arguments as they were and every semaphore at
    zero. -/
theorem run_main : θ_run defs (onTc (τ := τ) (main (F := Ideal))) ⟨m, fun _ => 0, ρ⟩ (fun r => (∀ c : Dev nD,
      r.2.mem ((c.tc : Thread nD τ).loc main_v0_0) = logits m c
      ∧ r.2.mem ((c.tc : Thread nD τ).loc main_v0_1) = segs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl) _
    (fun r h => ⟨fun c => ⟨((h.1 c).1 3).trans (final_3 m c), ((h.1 c).1 4).trans (final_4 m c),
      ((h.1 c).1 0).trans ((dats m 0 c).arrAt_in 0 rfl _), ((h.1 c).1 1).trans ((dats m 0 c).arrAt_in 1 rfl _),
      ((h.1 c).1 2).trans ((dats m 0 c).arrAt_in 2 rfl _)⟩, h.2⟩)

end Cert.LogitsProof
-- ==== Proof.RefValue.lean ====
module
public import proofs.«01_k».proof.Proof.Gen.ReferenceIdeal
public import proofs.«01_k».proof.Proof.Region
public import Idealize.ShloMosaic.Lib.StableHlo.RunHlo
public import Idealize.ShloMosaic.Lib.Claim

/-!
The reference over the extended reals: its two results at an index.
-/

@[expose] public section
noncomputable section

namespace Cert.LogitsRef

open Cert.ReferenceIdeal Cert.ReferenceIdeal.Gen Cert.LogitsProof Idealize.ShloMosaic
open Idealize.ShloMosaic.TcCoe Idealize.SL.Sem

/-- The step of the row-wise argument: keep the earlier pair unless the later is greater, or equal at a smaller index. -/
theorem reducer_eq (a b : EReal × BitVec 32) :
    reducer_argmax_f32_i32 (F := Ideal) a b = if b.1 < a.1 ∨ (a.1 = b.1 ∧ a.2.toInt < b.2.toInt) then a else b := by
  unfold reducer_argmax_f32_i32
  simp only [pointwise]
  have hslt : IntOp.cmpi CmpIPredicate.slt a.2 b.2 = BitVec.ofBool (decide (a.2.toInt < b.2.toInt)) := rfl
  rw [hslt]
  by_cases h1 : b.1 < a.1
  · have h2 : a.1 ≠ b.1 := ne_of_gt h1
    simp [h1, h2, Scalar.select, IntOp.ori, IntOp.andi, Prod.ext_iff]
  · by_cases h2 : a.1 = b.1
    · by_cases h3 : a.2.toInt < b.2.toInt
      · simp [h2, h3, Scalar.select, IntOp.ori, IntOp.andi, Prod.ext_iff]
      · simp [h2, h3, Scalar.select, IntOp.ori, IntOp.andi, Prod.ext_iff]
    · simp [h1, h2, Scalar.select, IntOp.ori, IntOp.andi, Prod.ext_iff]

/-- Over a list of pairs, from a pair that does not beat it, the fold finds the pair that none beats. -/
theorem foldl_reducer (x : EReal) (w : BitVec 32) (L : List (EReal × BitVec 32)) (init : EReal × BitVec 32)
    (hinit : init.1 < x ∨ (init.1 = x ∧ w.toInt ≤ init.2.toInt))
    (hle : ∀ p ∈ L, p.1 < x ∨ (p.1 = x ∧ w.toInt ≤ p.2.toInt)) (hmem : init = (x, w) ∨ (x, w) ∈ L) :
    L.foldl (reducer_argmax_f32_i32 (F := Ideal)) init = (x, w) := by
  induction L generalizing init with
  | nil => simpa using hmem
  | cons p L ih =>
    rw [List.foldl_cons]
    have hp := hle p (List.mem_cons_self ..)
    have hcase : reducer_argmax_f32_i32 (F := Ideal) init p = init ∨ reducer_argmax_f32_i32 (F := Ideal) init p = p := by
      rw [reducer_eq]; split_ifs <;> simp
    refine ih _ ?_ (fun q hq => hle q (List.mem_cons_of_mem _ hq)) ?_
    · rcases hcase with h | h <;> rw [h] <;> assumption
    · rcases hmem with h | h
      · left
        subst h
        rw [reducer_eq]
        split_ifs with hc
        · rfl
        · rw [not_or, not_and, not_lt, not_lt] at hc
          rcases hp with hp | ⟨hp1, hp2⟩
          · exact absurd hp (not_lt.mpr hc.1)
          · have := hc.2 hp1.symm
            exact Prod.ext hp1 (BitVec.eq_of_toInt_eq (le_antisymm this hp2))
      · rcases List.mem_cons.mp h with h | h
        · left
          subst h
          rw [reducer_eq]
          split_ifs with hc
          · rcases hc with hc | ⟨hc1, hc2⟩
            · rcases hinit with hi | ⟨hi, -⟩
              · exact absurd hc (not_lt.mpr hi.le)
              · exact absurd hi (ne_of_gt hc)
            · rcases hinit with hi | ⟨-, hi⟩
              · exact absurd hc1 (ne_of_lt hi)
              · exact absurd hc2 (not_lt.mpr hi)
          · rfl
        · exact Or.inr h

/-- The row-wise argument of a table of rows of 128 entries, with each entry's place in its row, is the first place of
    the row's greatest entry. -/
theorem argReduce_row (x : (⟨3, ![160, 400, 128]⟩ : Shape).Idx → EReal) (r : Fin 160) (q : Fin 400) :
    (Host.argReduce (F := Ideal) (φ := .f32) reducer_argmax_f32_i32 x (iotaInDim S160x400x128 32 2) (constant S_ .f32 0xFF800000#32)
      (constantI S_ 32 0#32) reducesTo_S160x400x128_S160x400_d2 h_S_ (ix2 r q)).2
      = BitVec.ofNat 32 (firstMax fun l : Fin 128 => x (ix3 r q l)) := by
  rw [Ideal.argReduce_eq_reduce2, Host.reduce2_eq_foldl_fiber]
  have hred : S160x400x128.Reduces [2] S160x400 := by decide
  have hlift : ∀ l : Fin 128, hred.lift (ix2 r q) l = ix3 r q l := fun l => by
    funext a; fin_cases a <;> rfl
  have hdrop : ∀ n : S160x400x128.Idx, reducesTo_S160x400x128_S160x400_d2.drop n = ix2 r q ↔ ∃ l : Fin 128, ix3 r q l = n := fun n => by
    have := congrArg (n ∈ ·) (hred.filter_drop_eq_image_lift (ix2 r q))
    simp only [Finset.mem_filter, Finset.mem_univ, true_and, Finset.mem_image, eq_iff_iff] at this
    rw [Shape.ReducesTo.drop_eq_drop reducesTo_S160x400x128_S160x400_d2 hred, this]
    exact exists_congr fun l => by
      have := hlift l
      exact this ▸ Iff.rfl
  set j := firstMax fun l : Fin 128 => x (ix3 r q l) with hjdef
  have hj : IsFirstMax (fun l : Fin 128 => x (ix3 r q l)) j := firstMax_spec _
  have hint : ∀ l : Fin 128, (BitVec.ofNat 32 (l : ℕ)).toInt = l := fun l => by
    have := l.isLt
    rw [BitVec.toInt_ofNat']; simp [Int.bmod]; omega
  refine congrArg Prod.snd (foldl_reducer (x (ix3 r q j)) (BitVec.ofNat 32 j) _ _ ?_ ?_ (Or.inr ?_))
  · have hinf : Ideal.ofBits FTy.f32 0xFF800000#32 = (⊥ : EReal) := by
      simp [Ideal.ofBits, Ideal.ieee]
    change Ideal.ofBits FTy.f32 0xFF800000#32 < _ ∨ (Ideal.ofBits FTy.f32 0xFF800000#32 = _ ∧ _ ≤ (0#32).toInt)
    rw [hinf, hint]
    rcases bot_le.lt_or_eq (a := (⊥ : EReal)) (b := x (ix3 r q j)) with h | h
    · exact Or.inl h
    · refine Or.inr ⟨h, ?_⟩
      have hz : ¬ (0 : Fin 128) < j := fun hlt => absurd (hj.2 0 hlt) (by simp only [← h]; exact not_lt_bot)
      have : j = 0 := le_antisymm (not_lt.mp hz) (Fin.zero_le _)
      rw [this]; rfl
  · intro p hp
    unfold Host.argReduceFiber at hp
    obtain ⟨n, hn, rfl⟩ := List.mem_map.mp hp
    obtain ⟨l, hl⟩ := (hdrop _).mp (of_decide_eq_true (List.mem_filter.mp hn).2)
    rw [← hl]
    change x (ix3 r q l) < _ ∨ (x (ix3 r q l) = _ ∧ _ ≤ (BitVec.ofNat 32 (l : ℕ)).toInt)
    rw [hint, hint]
    rcases (hj.1 l).lt_or_eq with h | h
    · exact Or.inl h
    · refine Or.inr ⟨h, ?_⟩
      have hle : j ≤ l := not_lt.mp fun hlt => absurd h (ne_of_lt (hj.2 l hlt))
      exact Int.ofNat_le.mpr hle
  · unfold Host.argReduceFiber
    refine List.mem_map.mpr ⟨S160x400x128.rowMajor (ix3 r q j), List.mem_filter.mpr ⟨List.mem_finRange _, ?_⟩, ?_⟩
    · rw [Equiv.symm_apply_apply]
      exact decide_eq_true ((hdrop _).mpr ⟨j, rfl⟩)
    · rw [Equiv.symm_apply_apply]; rfl

/-- The product of the states and the projection plus the bias, at an index, is the row's logit. -/
theorem logits_val (h : States) (W : Proj) (b : Bias) :
    (addf (F := Ideal) (φ := .f32) (Host.dotGeneral (F := Ideal) (φ₁ := .f32) (φ₂ := .f32) dot_S160x128_S128x50000_S160x50000_1_0_0_1_n_n none h W)
      (broadcastInDim S160x50000 ![0, 1] bcast_S1x50000_S160x50000_0_1 b) : (⟨2, ![160, 50000]⟩ : Shape).Idx → EReal)
      = fun j => logit h W b (j 0) (j 1) := by
  funext j
  idx_vars j
  simp only [pointwise]
  exact congrArg (· + b (ix2 0 j1)) (zero_add _)

/-- The padded logits, cut into segments: entry `l` of segment `q` is the row's padded logit `q * 128 + l`. -/
theorem padded_val (h : States) (W : Proj) (b : Bias) (r : Fin 160) (q : Fin 400) (l : Fin 128) :
    shapeCast (α := EReal) S160x400x128 (pad (α := EReal) S160x51200 ![0, 0] ![0, 1200] ![0, 0] (fun j : S160x50000.Idx => logit h W b (j 0) (j 1))
      (constant (F := Ideal) S_ FTy.f32 0xFF800000#32) pads_S160x50000_S160x51200_000_012000 h_S_)
      shapeCasts_S160x51200_S160x400x128 (ix3 r q l) = padLogit h W b r (q * 128 + l) := by
  simp only [pointwise]
  have hinf : Ideal.ofBits FTy.f32 0xFF800000#32 = (⊥ : EReal) := by
    simp [Ideal.ofBits, Ideal.ieee]
  unfold padLogit
  by_cases hn : (q : ℕ) * 128 + l < 50000
  · rw [dif_pos hn]
    refine (dif_pos fun a => ?_).trans (congrArg₂ (logit h W b) (Fin.ext ?_) (Fin.ext ?_))
    · fin_cases a
      · exact ⟨Nat.zero_le _, Nat.mod_one _, lt_of_eq_of_lt (Nat.div_one _) r.isLt⟩
      · exact ⟨Nat.zero_le _, Nat.mod_one _, lt_of_eq_of_lt (Nat.div_one _) hn⟩
    · exact Nat.div_one _
    · exact Nat.div_one _
  · rw [dif_neg hn]
    refine (dif_neg fun hin => hn ?_).trans hinf
    exact lt_of_eq_of_lt (Nat.div_one _).symm (hin 1).2.2

/-- The columns: a segment's first place plus the segment's first column, regrouped by tile. -/
theorem columns_val (a : S160x400.Idx → BitVec 32) (t : Fin 25) (r : Fin 160) (s : Fin 16) :
    transpose (α := BitVec 32) S25x160x16 [1, 0, 2] (shapeCast S160x25x16
      (addi a (broadcastInDim S160x400 ![0, 1] bcast_S1x400_S160x400_0_1
              (broadcastInDim S1x400 ![1] bcast_S400_S1x400_1
                (muli (broadcastInDim S400 ![] bcast_S_S400 (constantI S_ 32 128#32)) (iotaInDim S400 32 0)))))
       shapeCasts_S160x400_S160x25x16) transposes_S160x25x16_S25x160x16_1_0_2 (ix3 t r s)
      = a (ix2 r ⟨t * 16 + s, by omega⟩) + 128#32 * BitVec.ofNat 32 (t * 16 + s) := by
  simp only [pointwise]
  rfl

/-- The segments' columns from the logits: of tile `t`, row `r` and the tile's segment `s`, the segment's word. -/
theorem segs_val (h : States) (W : Proj) (b : Bias) :
    (transpose (α := BitVec 32) S25x160x16 [1, 0, 2] (shapeCast S160x25x16
      (addi (fun j : S160x400.Idx => (Host.argReduce (F := Ideal) (φ := .f32) reducer_argmax_f32_i32
          (shapeCast (α := EReal) S160x400x128 (pad (α := EReal) S160x51200 ![0, 0] ![0, 1200] ![0, 0]
            (fun j : S160x50000.Idx => logit h W b (j 0) (j 1))
            (constant (F := Ideal) S_ FTy.f32 0xFF800000#32) pads_S160x50000_S160x51200_000_012000 h_S_)
            shapeCasts_S160x51200_S160x400x128)
          (iotaInDim S160x400x128 32 2) (constant S_ .f32 0xFF800000#32) (constantI S_ 32 0#32)
          reducesTo_S160x400x128_S160x400_d2 h_S_ j).2)
        (broadcastInDim S160x400 ![0, 1] bcast_S1x400_S160x400_0_1
          (broadcastInDim S1x400 ![1] bcast_S400_S1x400_1
            (muli (broadcastInDim S400 ![] bcast_S_S400 (constantI S_ 32 128#32)) (iotaInDim S400 32 0)))))
       shapeCasts_S160x400_S160x25x16) transposes_S160x25x16_S25x160x16_1_0_2 : (⟨3, ![25, 160, 16]⟩ : Shape).Idx → BitVec 32)
      = fun j => segWord h W b (j 1) ((j 0 : ℕ) * 16 + (j 2 : ℕ)) := by
  funext j
  idx_vars j
  rw [columns_val, argReduce_row]
  simp only [padded_val]
  change BitVec.ofNat 32 (segPlace h W b j1 ((j0 : ℕ) * 16 + (j2 : ℕ))) + BitVec.ofNat 32 128 * BitVec.ofNat 32 ((j0 : ℕ) * 16 + (j2 : ℕ))
    = BitVec.ofNat 32 (((j0 : ℕ) * 16 + (j2 : ℕ)) * 128 + segPlace h W b j1 ((j0 : ℕ) * 16 + (j2 : ℕ)))
  rw [← BitVec.ofNat_mul, ← BitVec.ofNat_add]
  exact congrArg _ (by ring)

variable (m : (ℓ : Loc nD τ sig) → Buf (Elt Ideal) ℓ) (ρ : Dev nD → PrngReg)

/-- The argument arrays of device `c`. -/
abbrev statesOf (c : Dev nD) : States := m ((c.tc : Thread nD τ).loc main_arg0)
abbrev projOf (c : Dev nD) : Proj := m ((c.tc : Thread nD τ).loc main_arg1)
abbrev biasOf (c : Dev nD) : Bias := m ((c.tc : Thread nD τ).loc main_arg2)

/-- Every run of the reference leaves the logits in its first result. -/
theorem run_logits : θ_run defs (onTc (τ := τ) (main (F := Ideal))) ⟨m, fun _ => 0, ρ⟩ (fun r => ∀ c : Dev nD,
      r.2.mem ((c.tc : Thread nD τ).loc main_v2)
        = fun j : (⟨2, ![160, 50000]⟩ : Shape).Idx => logit (statesOf m c) (projOf m c) (biasOf m c) (j 0) (j 1)) := by
  hlo_run
  exact logits_val (statesOf m c) (projOf m c) (biasOf m c)

/-- Every run of the reference leaves the segments' columns in its second result. -/
theorem run_segs : θ_run defs (onTc (τ := τ) (main (F := Ideal))) ⟨m, fun _ => 0, ρ⟩ (fun r => ∀ c : Dev nD,
      r.2.mem ((c.tc : Thread nD τ).loc main_v13)
        = fun j : (⟨3, ![25, 160, 16]⟩ : Shape).Idx => segWord (statesOf m c) (projOf m c) (biasOf m c) (j 1) ((j 0 : ℕ) * 16 + (j 2 : ℕ))) := by
  hlo_run
  refine Eq.trans ?_ (segs_val (statesOf m c) (projOf m c) (biasOf m c))
  rw [← logits_val (statesOf m c) (projOf m c) (biasOf m c)]
  rfl

/-- Every run of the reference ends with the arguments as they were and every semaphore at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · -- The reference has no semaphore
    funext s
    obtain ⟨t, i | i⟩ := s <;> exact i.elim0

end Cert.LogitsRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsFrame
public import proofs.«01_k».proof.Proof.Region
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel over the extended reals leaves its arguments as they were and every semaphore at zero. -/
theorem frame_ideal : Cert.quiescent_KernelIdeal := fun m g _ =>
  θ_run_mono (Cert.LogitsProof.run_main m g) fun _ h => ⟨fun c => (h.1 c).2.2, h.2⟩

/-- Over the extended reals the kernel's logits and segments' columns are the reference's. -/
theorem algebraic : Cert.algebraic_KernelIdeal_ReferenceIdeal := by
  intro m g m' g' _ hagree
  refine ⟨Cert.LogitsProof.logits m, Cert.LogitsProof.segs m,
    θ_run_mono (Cert.LogitsProof.run_main m g) fun _ h => h.1, ?_⟩
  refine θ_run_mono (θ_run_and (Cert.LogitsRef.run_logits m' g')
    (θ_run_and (Cert.LogitsRef.run_segs m' g') (Cert.LogitsRef.run_frame m' g'))) fun r h c => ?_
  obtain ⟨h0, h1, h2⟩ := hagree c
  have e0 : Cert.LogitsRef.statesOf m' c = Cert.LogitsProof.hArr m c := h0
  have e1 : Cert.LogitsRef.projOf m' c = Cert.LogitsProof.wArr m c := h1
  have e2 : Cert.LogitsRef.biasOf m' c = Cert.LogitsProof.bArr m c := h2
  refine ⟨(h.1 c).trans ?_, (h.2.1 c).trans ?_, h.2.2.1 c⟩
  · rw [e0, e1, e2]; rfl
  · rw [e0, e1, e2]; rfl

/-- The frames, the idealization's one rewrite, and the equality of the results. -/
theorem claim : Cert.Claim := ⟨Cert.Kernel.Gen.facts, Cert.KernelIdeal.Gen.facts, Cert.ReferenceIdeal.Gen.facts,
  fun m g _ => Cert.LogitsFrame.run_frame m g, frame_ideal, fun m g _ => Cert.LogitsRef.run_frame m g,
  IdealRules.named_const.statement Cert.KernelIdeal.κ "mask" .f32 0xF149F2CA#32 ⊥ rfl, algebraic⟩

end Cert.Proof

end
